-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x4096x128 : Shape := ⟨3, ![16, 4096, 128]⟩
abbrev S16x128 : Shape := ⟨2, ![16, 128]⟩
abbrev S128x128 : Shape := ⟨2, ![128, 128]⟩
abbrev S128 : Shape := ⟨1, ![128]⟩
abbrev S1x128 : Shape := ⟨2, ![1, 128]⟩
abbrev S16x1024x128 : Shape := ⟨3, ![16, 1024, 128]⟩
abbrev S16384x128 : Shape := ⟨2, ![16384, 128]⟩
abbrev S16x1x128 : Shape := ⟨3, ![16, 1, 128]⟩

abbrev nBuf : Space → Nat
  | .hbm => 16
  | .vmem => 14
  | .smem => 0
  | _ => 0

abbrev bufTy : (tb : Table) → Fin (tcTables nBuf tb) → BufTy
  | .hbm, ⟨0, _⟩ => ⟨S16x4096x128, .f32⟩
  | .hbm, ⟨1, _⟩ => ⟨S16x128, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S1x128, .f32⟩
  | .hbm, ⟨10, _⟩ => ⟨S1x128, .f32⟩
  | .hbm, ⟨11, _⟩ => ⟨S128x128, .f32⟩
  | .hbm, ⟨12, _⟩ => ⟨S128x128, .f32⟩
  | .hbm, ⟨13, _⟩ => ⟨S128x128, .bf16⟩
  | .hbm, ⟨14, _⟩ => ⟨S128x128, .f32⟩
  | .hbm, ⟨15, _⟩ => ⟨S16x4096x128, .f32⟩
  | .local _ .vmem, ⟨0, _⟩ => ⟨S16x1024x128, .f32⟩
  | .local _ .vmem, ⟨1, _⟩ => ⟨S16x1024x128, .f32⟩
  | .local _ .vmem, ⟨2, _⟩ => ⟨S16x128, .f32⟩
  | .local _ .vmem, ⟨3, _⟩ => ⟨S128x128, .f32⟩
  | .local _ .vmem, ⟨4, _⟩ => ⟨S128x128, .bf16⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S16x1024x128, .f32⟩
  | .local _ .vmem, ⟨9, _⟩ => ⟨S16x1024x128, .f32⟩
  | .local _ .vmem, ⟨10, _⟩ => ⟨S16x128, .f32⟩
  | .local _ .vmem, ⟨11, _⟩ => ⟨S16x1024x128, .f32⟩
  | .local _ .vmem, ⟨12, _⟩ => ⟨S16x1024x128, .f32⟩
  | .local _ .vmem, ⟨13, _⟩ => ⟨S16x128, .f32⟩
  | _, _ => ⟨S16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_14 : BitVec 32 := 0#32
  let c1024_i32 : BitVec 32 := 1024#32
  let v20 : BitVec 32 := Scalar.addi c0_i32_14 c1024_i32
  let c1_i32 : BitVec 32 := 1#32
  ⟨c0_i32_14, v20, c1_i32⟩
def k0_off1 (k0_t1 : Fin k0_t1_loop.trips) : Fin 3 → Nat :=
  let c0_29 : Index := 0#32
  let c0_i32_14 : BitVec 32 := 0#32
  let c1_i32 : BitVec 32 := 1#32
  let arg13 : BitVec 32 := Scf.iv c0_i32_14 c1_i32 k0_t1
  let v37 : Index := Scalar.indexCast arg13
  let c0_30 : Index := 0#32
  ![0, v37.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S16x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S16x4096x128 : Shape := ⟨3, ![16, 4096, 128]⟩
abbrev S16x128 : Shape := ⟨2, ![16, 128]⟩
abbrev S128x128 : Shape := ⟨2, ![128, 128]⟩
abbrev S128 : Shape := ⟨1, ![128]⟩
abbrev S4096x16x128 : Shape := ⟨3, ![4096, 16, 128]⟩
abbrev S_ : Shape := ⟨0, ![]⟩
abbrev S1x16x128 : Shape := ⟨3, ![1, 16, 128]⟩
abbrev S1x128 : Shape := ⟨2, ![1, 128]⟩
abbrev S1x1x128 : Shape := ⟨3, ![1, 1, 128]⟩

abbrev nBuf : Space → Nat
  | .hbm => 50
  | .vmem => 0
  | .smem => 0
  | _ => 0

abbrev bufTy : (tb : Table) → Fin (tcTables nBuf tb) → BufTy
  | .hbm, ⟨0, _⟩ => ⟨S16x4096x128, .f32⟩
  | .hbm, ⟨1, _⟩ => ⟨S16x128, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S4096x16x128, .f32⟩
  | .hbm, ⟨9, _⟩ => ⟨S_, .f32⟩
  | .hbm, ⟨10, _⟩ => ⟨S4096x16x128, .f32⟩
  | .hbm, ⟨11, _⟩ => ⟨S_, .i32⟩
  | .hbm, ⟨12, _⟩ => ⟨S4096x16x128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S_, .i32⟩
  | .hbm, ⟨18, _⟩ => ⟨S16x128, .f32⟩
  | .hbm, ⟨19, _⟩ => ⟨S4096x16x128, .f32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S1x16x128, .f32⟩
  | .hbm, ⟨25, _⟩ => ⟨S16x128, .f32⟩
  | .hbm, ⟨26, _⟩ => ⟨S128x128, .f32⟩
  | .hbm, ⟨27, _⟩ => ⟨S16x128, .f32⟩
  | .hbm, ⟨28, _⟩ => ⟨S1x128, .f32⟩
  | .hbm, ⟨29, _⟩ => ⟨S16x128, .f32⟩
  | .hbm, ⟨30, _⟩ => ⟨S16x128, .f32⟩
  | .hbm, ⟨31, _⟩ => ⟨S128x128, .f32⟩
  | .hbm, ⟨32, _⟩ => ⟨S16x128, .f32⟩
  | .hbm, ⟨33, _⟩ => ⟨S16x128, .f32⟩
  | .hbm, ⟨34, _⟩ => ⟨S1x128, .f32⟩
  | .hbm, ⟨35, _⟩ => ⟨S16x128, .f32⟩
  | .hbm, ⟨36, _⟩ => ⟨S16x128, .f32⟩
  | .hbm, ⟨37, _⟩ => ⟨S16x128, .f32⟩
  | .hbm, ⟨38, _⟩ => ⟨S1x16x128, .f32⟩
  | .hbm, ⟨39, _⟩ => ⟨S_, .i32⟩
  | .hbm, ⟨40, _⟩ => ⟨S_, .i32⟩
  | .hbm, ⟨41, _⟩ => ⟨S4096x16x128, .f32⟩
  | .hbm, ⟨42, _⟩ => ⟨S_, .i32⟩
  | .hbm, ⟨43, _⟩ => ⟨S_, .i32⟩
  | .hbm, ⟨44, _⟩ => ⟨S16x4096x128, .f32⟩
  | .hbm, ⟨45, _⟩ => ⟨S128x128, .f32⟩
  | .hbm, ⟨46, _⟩ => ⟨S16x4096x128, .f32⟩
  | .hbm, ⟨47, _⟩ => ⟨S1x1x128, .f32⟩
  | .hbm, ⟨48, _⟩ => ⟨S16x4096x128, .f32⟩
  | .hbm, ⟨49, _⟩ => ⟨S16x4096x128, .f32⟩
  | _, _ => ⟨S16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_c : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev main_v2_3 : Ref sig .tc := ⟨.hbm, 15, rfl⟩
abbrev main_v2_4 : Ref sig .tc := ⟨.hbm, 16, rfl⟩
abbrev main_v2_5 : Ref sig .tc := ⟨.hbm, 17, rfl⟩
abbrev main_v2_6 : Ref sig .tc := ⟨.hbm, 18, rfl⟩
abbrev main_v2_7 : Ref sig .tc := ⟨.hbm, 19, rfl⟩
abbrev main_while0c_c_7 : Ref sig .tc := ⟨.hbm, 20, rfl⟩
abbrev main_while0c_v9 : Ref sig .tc := ⟨.hbm, 21, rfl⟩
abbrev main_while0b_call0_c : Ref sig .tc := ⟨.hbm, 22, rfl⟩
abbrev main_while0b_call0_c_0 : Ref sig .tc := ⟨.hbm, 23, rfl⟩
abbrev main_while0b_call0_v0 : Ref sig .tc := ⟨.hbm, 24, rfl⟩
abbrev main_while0b_v9 : Ref sig .tc := ⟨.hbm, 25, rfl⟩
abbrev main_while0b_v10 : Ref sig .tc := ⟨.hbm, 26, rfl⟩
abbrev main_while0b_v11 : Ref sig .tc := ⟨.hbm, 27, rfl⟩
abbrev main_while0b_v12 : Ref sig .tc := ⟨.hbm, 28, rfl⟩
abbrev main_while0b_v13 : Ref sig .tc := ⟨.hbm, 29, rfl⟩
abbrev main_while0b_v14 : Ref sig .tc := ⟨.hbm, 30, rfl⟩
abbrev main_while0b_v15 : Ref sig .tc := ⟨.hbm, 31, rfl⟩
abbrev main_while0b_v16 : Ref sig .tc := ⟨.hbm, 32, rfl⟩
abbrev main_while0b_v17 : Ref sig .tc := ⟨.hbm, 33, rfl⟩
abbrev main_while0b_v18 : Ref sig .tc := ⟨.hbm, 34, rfl⟩
abbrev main_while0b_v19 : Ref sig .tc := ⟨.hbm, 35, rfl⟩
abbrev main_while0b_v20 : Ref sig .tc := ⟨.hbm, 36, rfl⟩
abbrev main_while0b_v21 : Ref sig .tc := ⟨.hbm, 37, rfl⟩
abbrev main_while0b_call1_v0 : Ref sig .tc := ⟨.hbm, 38, rfl⟩
abbrev main_while0b_call1_c : Ref sig .tc := ⟨.hbm, 39, rfl⟩
abbrev main_while0b_call1_c_0 : Ref sig .tc := ⟨.hbm, 40, rfl⟩
abbrev main_while0b_v22 : Ref sig .tc := ⟨.hbm, 41, rfl⟩
abbrev main_while0b_c_7 : Ref sig .tc := ⟨.hbm, 42, rfl⟩
abbrev main_while0b_v23 : Ref sig .tc := ⟨.hbm, 43, rfl⟩
abbrev main_v3 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩

abbrev nD : Nat := 1
abbrev τ : Topo := Topo.v7x

variable {F : FTy → Type} [FloatOps F]

abbrev main_while0_count : Scf.Loop 32 := ⟨0#32, 4096#32, 1#32⟩
-- ==== Proof.KernelIdealLoop.lean ====
/-
  THE COUNTED LOOP of the kernel's body, over any float values: 1024 trips, each one step of the recurrence.

  Trip `k` reads row `k` of the pre-activations, adds the carried hidden state times the recurrent weights, takes tanh,
  stores the new state as row `k` of the state buffer, and carries it on, rounded to bf16. Here: the carried value before
  trip `k` (`carry`), the state trip `k` stores (`hid`), the whole state buffer at the loop's end (`states`), and the loop's
  invariant (`inv`, kept by `step`): before trip `k` the value carried is `carry k` and rows `0 … k-1` of the state buffer hold their
  states.
-/
module

public import proofs.«01_k».proof.Proof.Gen.KernelIdeal.Skeleton
public import proofs.«01_k».proof.Proof.Gen.KernelIdeal.Frame
public import Idealize.ShloMosaic.Lib.Exec
public import Idealize.ShloMosaic.Lib.Tactic
public import Idealize.ShloMosaic.Lib.VecWindow
public import Idealize.ShloMosaic.Lib.WritesUnit
public import Idealize.ShloMosaic.Lib.PointwiseCore

@[expose] public section

set_option maxRecDepth 16384

noncomputable section

namespace Cert.KernelIdeal.Block

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-! ## The values -/

/-- Row `k` of a block of pre-activations (its second axis is time). -/
def rowAt (az : Vec F S16x1024x128 .f32) (k : Fin 1024) : Vec F S16x1x128 .f32 := fun j => az (ix3 (j 0) k (j 2))

/-- The value carried into trip `k`: the start value, then each trip's state rounded to bf16. -/
def carry (az : Vec F S16x1024x128 .f32) (whh : Vec F S128x128 .bf16) (start : FVec F S16x128 .bf16) : ℕ → FVec F S16x128 .bf16
  | 0 => start
  | k + 1 => k0_pay8 whh (carry az whh start k) (k0_pay5 (rowAt az (Fin.ofNat 1024 k)))

/-- The state trip `k` computes. -/
def hid (az : Vec F S16x1024x128 .f32) (whh : Vec F S128x128 .bf16) (start : FVec F S16x128 .bf16) (k : Fin 1024) : FVec F S16x128 .f32 :=
  k0_pay6 whh (carry az whh start k.val) (k0_pay5 (rowAt az k))

/-- The state buffer after the loop: row `k` is trip `k`'s state. -/
def states (az : Vec F S16x1024x128 .f32) (whh : Vec F S128x128 .bf16) (start : FVec F S16x128 .bf16) : Vec F S16x1024x128 .f32 :=
  fun j => hid az whh start (j 1) (ix2 (j 0) (j 2))

/-- The loop makes 1024 trips. -/
theorem trips_eq : k0_t1_loop.trips = 1024 := by decide

/-- What trip `k` loads of the pre-activations is their row `k`. -/
theorem load_row (a : Memref sig .tc .vmem S16x1024x128 .f32) (X : BufTy.Contents (Elt F) a.view.ty) (k : Fin k0_t1_loop.trips) (k' : Fin 1024) (hk : k.val = k'.val) :
    a.view.readAt (Elt F) (Rect.unit (s := S16x1024x128) (k0_off1 k) S16x1x128.size (k0_off1_inb k)).toLoadRect X
      = rowAt (a.view.read (Elt F) X) k' := by
  rw [View.readAt_unit a.view X _ (k0_off1_eq k) (by rw [← k0_off1_eq]; exact k0_off1_inb k)]
  funext j
  refine congrArg (a.view.read (Elt F) X) (funext fun b => Fin.ext ?_)
  have h1 : (j 1).val < 1 := (j 1).isLt
  match b with
  | ⟨0, _⟩ => show 0 + 1 * (j 0).val = (j 0).val; omega
  | ⟨1, _⟩ => show k.val + 1 * (j 1).val = k'.val; omega
  | ⟨2, _⟩ => show 0 + 1 * (j 2).val = (j 2).val; omega

/-- The rows before `k` of the state buffer hold their states. -/
def RowsDone (az : Vec F S16x1024x128 .f32) (whh : Vec F S128x128 .bf16) (start : FVec F S16x128 .bf16) (k : ℕ) (z : Vec F S16x1024x128 .f32) : Prop :=
  ∀ j : S16x1024x128.Idx, (j 1).val < k → z j = states az whh start j

/-- Storing trip `k`'s state as row `k` extends the rows done by one. -/
theorem RowsDone.store {az : Vec F S16x1024x128 .f32} {whh : Vec F S128x128 .bf16} {start : FVec F S16x128 .bf16}
    (a : Memref sig .tc .vmem S16x1024x128 .f32) (f : BufTy.Contents (Elt F) a.view.ty) (k : Fin k0_t1_loop.trips) (k' : Fin 1024) (hk : k.val = k'.val)
    (h : RowsDone az whh start k.val (a.view.read (Elt F) f)) :
    RowsDone az whh start (k.val + 1) (a.view.read (Elt F) (a.view.writes (Elt F) f
      [⟨Rect.unit (s := S16x1024x128) (k0_off1 k) S16x1x128.size (k0_off1_inb k), k0_pay7 whh (carry az whh start k.val) (k0_pay5 (rowAt az k'))⟩])) := by
  intro j hj
  by_cases hjk : (j 1).val < k.val
  · rw [View.read_writes_cons_unit_of_not_mem a.view f (k0_off1_inb k) _ [] j (k0_off1_eq k) (1 : Fin 3) (Or.inl hjk), View.writes_nil]
    exact h j hjk
  · have hjk' : (j 1).val = k.val := by omega
    rw [View.read_writes_cons_unit_of_mem a.view f (k0_off1_inb k) _ [] j (ix3 (j 0) (0 : Fin 1) (j 2)) (k0_off1_eq k) (fun b => by
      match b with
      | ⟨0, _⟩ => show (j 0).val = 0 + (j 0).val; omega
      | ⟨1, _⟩ => show (j 1).val = k.val + 0; omega
      | ⟨2, _⟩ => show (j 2).val = 0 + (j 2).val; omega)]
    have e : j 1 = k' := Fin.ext (hjk'.trans hk)
    unfold states hid
    rw [e, ← hk]
    unfold k0_pay7
    generalize k0_pay6 whh (carry az whh start k.val) (k0_pay5 (rowAt az k')) = t
    generalize j 0 = j0
    generalize j 2 = j2
    pointwise []

/-- All rows done: the buffer is `states`. -/
theorem RowsDone.all {az : Vec F S16x1024x128 .f32} {whh : Vec F S128x128 .bf16} {start : FVec F S16x128 .bf16} {z : Vec F S16x1024x128 .f32}
    (h : RowsDone az whh start k0_t1_loop.trips z) : z = states az whh start :=
  funext fun j => h j (by rw [trips_eq]; exact (j 1).isLt)

/-! ## The invariant -/

section Loop

variable (𝒱 : Variants) (c : Dev nD) (bd : Option 𝒱.V) (E : Set ℕ) (i : grid0.Coords)
  (arg1 : Memref sig .tc .vmem S16x1024x128 .f32) (harg1 : arg1.IsWhole) (arg2 : Memref sig .tc .vmem S16x128 .f32) (harg2 : arg2.IsWhole)
  (arg3 : Memref sig .tc .vmem S128x128 .f32) (harg3 : arg3.IsWhole) (arg4 : Memref sig .tc .vmem S128x128 .bf16) (harg4 : arg4.IsWhole)
  (arg5 : Memref sig .tc .vmem S128x128 .f32) (harg5 : arg5.IsWhole) (arg6 : Memref sig .tc .vmem S1x128 .f32) (harg6 : arg6.IsWhole)
  (arg7 : Memref sig .tc .vmem S1x128 .f32) (harg7 : arg7.IsWhole) (arg8 : Memref sig .tc .vmem S16x1024x128 .f32) (harg8 : arg8.IsWhole)
  (arg9 : Memref sig .tc .vmem S16x128 .f32) (harg9 : arg9.IsWhole) (arg10 : Memref sig .tc .vmem S16x1024x128 .f32) (harg10 : arg10.IsWhole)
  (arg11 : Memref sig .tc .vmem S16x1024x128 .f32) (harg11 : arg11.IsWhole) (arg12 : Memref sig .tc .vmem S16x128 .f32) (harg12 : arg12.IsWhole)

/-- Before trip `k`, carrying `acc`: the pre-activation buffer at `az`; the state buffer at contents whose first `k` rows are
    done; the row buffer at anything; `acc` the carried value. -/
def inv (az : Vec F S16x1024x128 .f32) (whh : Vec F S128x128 .bf16) (start : FVec F S16x128 .bf16) (k : ℕ) (acc : FVec F S16x128 .bf16) : sProp 𝕄 :=
  iprop((∃ X : BufTy.Contents (Elt F) arg10.view.ty, (arg10.view.loc (c : Thread nD τ) ↦[arg10.view.set]{fullShare} X)
        ∗ ⌜arg10.view.read (Elt F) X = az⌝)
    ∗ (∃ f : BufTy.Contents (Elt F) arg11.view.ty, (arg11.view.loc (c : Thread nD τ) ↦[arg11.view.set]{fullShare} f)
        ∗ ⌜RowsDone az whh start k (arg11.view.read (Elt F) f)⌝)
    ∗ (∃ g : BufTy.Contents (Elt F) arg12.view.ty, (arg12.view.loc (c : Thread nD τ) ↦[arg12.view.set]{fullShare} g))
    ∗ ⌜acc = carry az whh start k⌝)

/-- One trip preserves the invariant. -/
theorem step (az : Vec F S16x1024x128 .f32) (whh : Vec F S128x128 .bf16) (start : FVec F S16x128 .bf16) (k : Fin k0_t1_loop.trips) (acc : FVec F S16x128 .bf16) :
    inv c arg10 arg11 arg12 az whh start k.val acc
      ⊢ wp frame (wpE (defs₀ (F := F)) 𝒱 (c : Thread nD τ) bd) E
          (k0_t1_body (F := F) i arg1 harg1 arg2 harg2 arg3 harg3 arg4 harg4 arg5 harg5 arg6 harg6 arg7 harg7 arg8 harg8 arg9 harg9 arg10 harg10 arg11 harg11 arg12 harg12 whh k acc)
          (inv c arg10 arg11 arg12 az whh start (k.val + 1)) := by
  have hk : k.val < 1024 := Nat.lt_of_lt_of_eq k.isLt trips_eq
  unfold inv k0_t1_body
  iintro ⟨⟨%X, HX, %hX⟩, ⟨%f, HZ, %hz⟩, ⟨%g, HT⟩, %hacc⟩
  subst hacc
  subst hX
  sl_exec
  sl_step
  isplitl [HX]
  · iexists _
    isplitl [HX]; · iexact HX
    ipureintro; rfl
  isplitl [HZ]
  · iexists _
    isplitl [HZ]; · iexact HZ
    ipureintro
    sl_unfold_words
    rw [View.readCov_full]
    have h := RowsDone.store arg11 f k ⟨k.val, hk⟩ rfl hz
    rw [← load_row arg10 X k ⟨k.val, hk⟩ rfl] at h
    exact h
  isplitl [HT]; · iexists _; iexact HT
  ipureintro
  sl_unfold_words
  rw [View.readCov_full]
  exact congrArg (fun t => k0_pay8 whh (carry (arg10.view.read (Elt F) X) whh start k.val) (k0_pay5 t))
    (load_row arg10 X k (Fin.ofNat 1024 k.val) (Nat.mod_eq_of_lt hk).symm)

end Loop

end Cert.KernelIdeal.Block

end
-- ==== Proof.KernelIdealBody.lean ====
/-
  THE KERNEL'S BODY AT ONE GRID POINT, over any float values.

  From the input windows' blocks, the scratch buffer that carries the hidden state at some value, and the other scratch at
  anything, the body returns with the output block at `outBlock` and the carried hidden state at `hidAfter`; at the first
  point the hidden state it starts from is the initial state it has just copied, at the others what the scratch held.
-/
module

public import proofs.«01_k».proof.Proof.KernelIdealLoop

@[expose] public section

set_option maxRecDepth 16384

noncomputable section

namespace Cert.KernelIdeal.Block

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-! ## What one point computes -/

/-- The state buffer at the point's end: the loop over the block's pre-activations, started from the hidden state `h`. -/
def blockStates (x : Vec F S16x1024x128 .f32) (wih : Vec F S128x128 .f32) (whh : Vec F S128x128 .bf16) (b : Vec F S1x128 .f32)
    (h : Vec F S16x128 .f32) : Vec F S16x1024x128 .f32 := states (k0_pay3 x wih b) whh (k0_pay4 h)

/-- The output block: the output head over the states. -/
def outBlock (x : Vec F S16x1024x128 .f32) (wih : Vec F S128x128 .f32) (whh : Vec F S128x128 .bf16) (wout : Vec F S128x128 .f32)
    (b bo : Vec F S1x128 .f32) (h : Vec F S16x128 .f32) : Vec F S16x1024x128 .f32 :=
  k0_pay1 (k0_pay10 (blockStates x wih whh b h)) wout bo

/-- The hidden state left for the next point: the last carried value, widened. -/
def hidAfter (x : Vec F S16x1024x128 .f32) (wih : Vec F S128x128 .f32) (whh : Vec F S128x128 .bf16) (b : Vec F S1x128 .f32)
    (h : Vec F S16x128 .f32) : Vec F S16x128 .f32 := k0_pay9 (carry (k0_pay3 x wih b) whh (k0_pay4 h) 1024)

/-- The printed test of the grid coordinate says whether the point is the first. -/
theorem first_of_eq : ∀ i : Fin 4, i.val = 0 → Scalar.cmpi .ne (Scalar.extui (Scalar.cmpi .eq (BitVec.ofNat 32 i.val) 0#32) : BitVec 32) 0#32 = 1#1 := by decide
/-- At any other point the test for the first point fails. -/
theorem first_of_ne : ∀ i : Fin 4, i.val ≠ 0 → ¬ Scalar.cmpi .ne (Scalar.extui (Scalar.cmpi .eq (BitVec.ofNat 32 i.val) 0#32) : BitVec 32) 0#32 = 1#1 := by decide

/-! ## The triple -/

section Body

variable (c : Dev nD) (i : grid0.Coords)
  (arg1 : Memref sig .tc .vmem S16x1024x128 .f32) (harg1 : arg1.IsWhole) (arg2 : Memref sig .tc .vmem S16x128 .f32) (harg2 : arg2.IsWhole)
  (arg3 : Memref sig .tc .vmem S128x128 .f32) (harg3 : arg3.IsWhole) (arg4 : Memref sig .tc .vmem S128x128 .bf16) (harg4 : arg4.IsWhole)
  (arg5 : Memref sig .tc .vmem S128x128 .f32) (harg5 : arg5.IsWhole) (arg6 : Memref sig .tc .vmem S1x128 .f32) (harg6 : arg6.IsWhole)
  (arg7 : Memref sig .tc .vmem S1x128 .f32) (harg7 : arg7.IsWhole) (arg8 : Memref sig .tc .vmem S16x1024x128 .f32) (harg8 : arg8.IsWhole)
  (arg9 : Memref sig .tc .vmem S16x128 .f32) (harg9 : arg9.IsWhole) (arg10 : Memref sig .tc .vmem S16x1024x128 .f32) (harg10 : arg10.IsWhole)
  (arg11 : Memref sig .tc .vmem S16x1024x128 .f32) (harg11 : arg11.IsWhole) (arg12 : Memref sig .tc .vmem S16x128 .f32) (harg12 : arg12.IsWhole)

/-- The body's triple, for any continuation. `h` is the hidden state the point starts from: the initial state at the first
    point (`h0`), what the scratch holds at the others (`hs`). -/
theorem bodyRun (x : Vec F S16x1024x128 .f32) (h0 : Vec F S16x128 .f32) (wih : Vec F S128x128 .f32) (whh : Vec F S128x128 .bf16)
    (wout : Vec F S128x128 .f32) (b bo : Vec F S1x128 .f32) (h : Vec F S16x128 .f32) (s : Vec F S16x128 .f32)
    (hfirst : (i 0).val = 0 → k0_pay2 h0 = h) (hlater : (i 0).val ≠ 0 → s = h) (K : PUnit → sProp 𝕄) :
    iprop(owns (c : Thread nD τ) arg1 fullShare x ∗ owns (c : Thread nD τ) arg2 fullShare h0 ∗ owns (c : Thread nD τ) arg3 fullShare wih
        ∗ owns (c : Thread nD τ) arg4 fullShare whh ∗ owns (c : Thread nD τ) arg5 fullShare wout ∗ owns (c : Thread nD τ) arg6 fullShare b
        ∗ owns (c : Thread nD τ) arg7 fullShare bo ∗ (∃ d, owns (c : Thread nD τ) arg8 fullShare d)
        ∗ owns (c : Thread nD τ) arg9 fullShare s ∗ (∃ d, owns (c : Thread nD τ) arg10 fullShare d)
        ∗ (∃ d, owns (c : Thread nD τ) arg11 fullShare d) ∗ (∃ d, owns (c : Thread nD τ) arg12 fullShare d)
        ∗ (iprop(owns (c : Thread nD τ) arg1 fullShare x ∗ owns (c : Thread nD τ) arg2 fullShare h0 ∗ owns (c : Thread nD τ) arg3 fullShare wih
            ∗ owns (c : Thread nD τ) arg4 fullShare whh ∗ owns (c : Thread nD τ) arg5 fullShare wout ∗ owns (c : Thread nD τ) arg6 fullShare b
            ∗ owns (c : Thread nD τ) arg7 fullShare bo ∗ owns (c : Thread nD τ) arg8 fullShare (outBlock x wih whh wout b bo h)
            ∗ owns (c : Thread nD τ) arg9 fullShare (hidAfter x wih whh b h) ∗ (∃ d, owns (c : Thread nD τ) arg10 fullShare d)
            ∗ (∃ d, owns (c : Thread nD τ) arg11 fullShare d) ∗ (∃ d, owns (c : Thread nD τ) arg12 fullShare d)) -∗ K ⟨⟩))
      ⊢ wp frame (wpE (defs₀ (F := F)) Variants.none c none) Set.univ
          (cc0__rnn_kernel i arg1 harg1 arg2 harg2 arg3 harg3 arg4 harg4 arg5 harg5 arg6 harg6 arg7 harg7 arg8 harg8 arg9 harg9 arg10 harg10
            arg11 harg11 arg12 harg12) K := by
  simp only [cc0__rnn_kernel_eq_skeleton, k0_part1_eq_skeleton]; unfold cc0__rnn_kernel_skel; simp only [k0_part1_eq_skeleton]; unfold k0_part1_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%f9, %e9, H9⟩, ⟨%d10, %f10, -, H10⟩, ⟨%d11, %f11, -, H11⟩, ⟨%d12, %f12, -, H12⟩, Hk⟩
  have hw : View.readAt (Elt F) arg4.view (Rect.unit (s := S128x128) ![0, 0] S128x128.size inb_S128x128_S128x128_0_0).toLoadRect f4 = whh := by
    rw [View.readAt_full]; exact e4
  have hl : k0_pay3 (View.readAt (Elt F) arg1.view (Rect.unit (s := S16x1024x128) ![0, 0, 0] S16x1024x128.size inb_S16x1024x128_S16x1024x128_0_0_0).toLoadRect f1)
      (View.readAt (Elt F) arg3.view (Rect.unit (s := S128x128) ![0, 0] S128x128.size inb_S128x128_S128x128_0_0).toLoadRect f3)
      (View.readAt (Elt F) arg6.view (Rect.unit (s := S1x128) ![0, 0] S1x128.size inb_S1x128_S1x128_0_0).toLoadRect f6) = k0_pay3 x wih b := by
    rw [View.readAt_full, View.readAt_full, View.readAt_full, e1, e3, e6]
  by_cases hi : (i 0).val = 0
  all_goals
    first
      | have hc := first_of_eq (i 0) hi
      | have hc := first_of_ne (i 0) hi
    sl_exec
    rw [bind_assoc]
    sl_for (inv c arg10 arg11 arg12 (k0_pay3 x wih b) whh (k0_pay4 h)) $$ [H10 H11 H12]
    case region => exact step Variants.none c none Set.univ i arg1 harg1 arg2 harg2 arg3 harg3 arg4 harg4 arg5 harg5 arg6 harg6 arg7 harg7 arg8 harg8 arg9 harg9 arg10 harg10 arg11 harg11 arg12 harg12 _ _ _
    · unfold inv
      isplitl [H10]
      · iexists _
        isplitl [H10]; · iexact H10
        ipureintro
        rw [View.read_writes_full]; exact hl
      isplitl [H11]
      · iexists _
        isplitl [H11]; · iexact H11
        ipureintro
        exact fun j hj => absurd hj (Nat.not_lt_zero _)
      isplitl [H12]; · iexists _; iexact H12
      ipureintro
      refine congrArg k0_pay4 ?_
      first
        | rw [View.readAt_full]; exact e9.trans (hlater hi)
        | (sl_unfold_words; rw [View.readCov_full, View.readAt_full, e2]; exact hfirst hi)
    iintro %acc HI
    unfold inv
    icases HI with ⟨⟨%X, H10, %hX⟩, ⟨%z, H11, %hz⟩, ⟨%g, H12⟩, %hacc⟩
    sl_exec
    sl_step
    have hz' := RowsDone.all hz
    have ha : acc = carry (k0_pay3 x wih b) whh (k0_pay4 h) 1024 := hacc.trans (congrArg _ trips_eq)
    iapply Hk
    isplitl [H1]; · iexists _; isplitr; swap; · iexact H1
                    ipureintro; exact e1
    isplitl [H2]; · iexists _; isplitr; swap; · iexact H2
                    ipureintro; exact e2
    isplitl [H3]; · iexists _; isplitr; swap; · iexact H3
                    ipureintro; exact e3
    isplitl [H4]; · iexists _; isplitr; swap; · iexact H4
                    ipureintro; exact e4
    isplitl [H5]; · iexists _; isplitr; swap; · iexact H5
                    ipureintro; exact e5
    isplitl [H6]; · iexists _; isplitr; swap; · iexact H6
                    ipureintro; exact e6
    isplitl [H7]; · iexists _; isplitr; swap; · iexact H7
                    ipureintro; exact e7
    isplitl [H8]
    · iexists _; isplitr; swap; · iexact H8
      ipureintro
      rw [View.read_writes_full, View.readAt_full, View.readAt_full, View.readAt_full, hz', e5, e7]; rfl
    isplitl [H9]
    · iexists _; isplitr; swap; · iexact H9
      ipureintro
      rw [View.read_writes_full, ha]; rfl
    isplitl [H10]
    · iexists _, _; isplitr; swap; · iexact H10
      ipureintro; rfl
    isplitl [H11]
    · iexists _, _; isplitr; swap; · iexact H11
      ipureintro; rfl
    iexists _, _; isplitr; swap; · iexact H12
    ipureintro; rfl

end Body

end Cert.KernelIdeal.Block

end
-- ==== Proof.KernelIdealFrame.lean ====
/-
  THE KERNEL'S RUN, over any float values: the proof data of the pipeline, the body obligation at every grid point, and the
  launch.

  Between points the region's invariant names one scratch buffer, the hidden state: before point `n` it holds `hidIn n`
  (anything before the first point). Point `t` writes the output block `outAt t`, computed from the point's blocks and the
  hidden state it starts from (`startAt`). `run_main` is the run of the whole program.
-/
module

public import proofs.«01_k».proof.Proof.KernelIdealBody
public import Idealize.ShloMosaic.Lib.Pipeline.Frame
public import Idealize.ShloMosaic.Lib.Pipeline.FrameBody
public import Idealize.ShloMosaic.Lib.Pipeline.Quiescent

@[expose] public section

set_option maxRecDepth 16384

noncomputable section

namespace Cert.KernelIdeal.Block

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each point finds and leaves -/

/-- Point `n` of the grid (the grid has four). -/
def pt (n : ℕ) : Fin cfg0.N := ⟨n % 4, Nat.lt_of_lt_of_eq (Nat.mod_lt n (by decide)) N_0.symm⟩

/-- A point is its number's point. -/
theorem pt_val (t : Fin cfg0.N) : pt t.val = t :=
  Fin.ext (Nat.mod_eq_of_lt (Nat.lt_of_lt_of_eq t.isLt N_0))

/-- The hidden state point `n` starts from: the initial state at the first, what the point before left at the others. -/
def hidIn (c : Dev nD) : ℕ → Vec F S16x128 .f32
  | 0 => k0_pay2 (iblk m c 1 (pt 0))
  | n + 1 => hidAfter (iblk m c 0 (pt n)) (iblk m c 2 (pt n)) (iblk m c 3 (pt n)) (iblk m c 5 (pt n)) (hidIn c n)

/-- The output block point `t` writes. -/
def outAt (c : Dev nD) (t : Fin cfg0.N) : Vec F S16x1024x128 .f32 :=
  outBlock (iblk m c 0 t) (iblk m c 2 t) (iblk m c 3 t) (iblk m c 4 t) (iblk m c 5 t) (iblk m c 6 t) (hidIn m c t.val)

/-- Before point `n`: the hidden-state scratch at `hidIn n` (at anything before the first point), the other scratch at
    anything, the generator register at some state. -/
def between (c : Dev nD) (n : ℕ) : sProp 𝕄 :=
  iprop((∃ s : Vec F S16x128 .f32, ⌜n ≠ 0 → s = hidIn m c n⌝ ∗ owns (c : Thread nD τ) (Memref.whole cc0_scratch0) fullShare s)
    ∗ (∃ d, owns (c : Thread nD τ) (Memref.whole cc0_scratch1) fullShare d)
    ∗ (∃ d, owns (c : Thread nD τ) (Memref.whole cc0_scratch2) fullShare d)
    ∗ (∃ d, owns (c : Thread nD τ) (Memref.whole cc0_scratch3) fullShare d)
    ∗ (∃ r, prngReg c r))

/-! ## The proof data -/

/-- The proof data on core `c`: each array as the region finds it; after the body at `t` each input's buffer at its block and
    the output's at `outAt t`; the invariant `between`; full shares; nothing owed. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => outAt m c t
  Φ t := between m c t.val
  q _ := fullShare
  owed _ := 0

/-- The launch finds every window's array as the host operations left it. -/
theorem A_eq (c : Dev nD) (w : Fin cfg0.W) : (dats m 0 c).A w = V m c (Pipeline.arrRef spec0 w) := by dsimp only [dats]

/-- An input window's buffer holds, at each point, the window's block (one statement for each of the seven). -/
theorem before_0 (c : Dev nD) (t : Fin cfg0.N) (d) : (dats m 0 c).before 0 t d = iblk m c 0 t := before0_0_of m _ (A_eq m c 0) (fun _ => rfl) t d
theorem before_1 (c : Dev nD) (t : Fin cfg0.N) (d) : (dats m 0 c).before 1 t d = iblk m c 1 t := before0_1_of m _ (A_eq m c 1) (fun _ => rfl) t d
theorem before_2 (c : Dev nD) (t : Fin cfg0.N) (d) : (dats m 0 c).before 2 t d = iblk m c 2 t := before0_2_of m _ (A_eq m c 2) (fun _ => rfl) t d
theorem before_3 (c : Dev nD) (t : Fin cfg0.N) (d) : (dats m 0 c).before 3 t d = iblk m c 3 t := before0_3_of m _ (A_eq m c 3) (fun _ => rfl) t d
theorem before_4 (c : Dev nD) (t : Fin cfg0.N) (d) : (dats m 0 c).before 4 t d = iblk m c 4 t := before0_4_of m _ (A_eq m c 4) (fun _ => rfl) t d
theorem before_5 (c : Dev nD) (t : Fin cfg0.N) (d) : (dats m 0 c).before 5 t d = iblk m c 5 t := before0_5_of m _ (A_eq m c 5) (fun _ => rfl) t d
theorem before_6 (c : Dev nD) (t : Fin cfg0.N) (d) : (dats m 0 c).before 6 t d = iblk m c 6 t := before0_6_of m _ (A_eq m c 6) (fun _ => rfl) t d
/-- The result window's buffer holds, after a point, what the point computes. -/
theorem after_7 (c : Dev nD) (t : Fin cfg0.N) : (dats m 0 c).after 7 t = outAt m c t := by dsimp only [dats]

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The grid coordinate of a point is its number. -/
theorem coord_eq : ∀ t : Fin grid0.N, (grid0.coords t 0).val = t.val := by decide

/-- The initial state's block is the same at the first point as `hidIn` reads it. -/
theorem hidIn_first (c : Dev nD) (t : Fin cfg0.N) (ht : t.val = 0) : k0_pay2 (iblk m c 1 t) = hidIn m c t.val := by
  have e : pt 0 = t := Fin.ext ht.symm
  rw [ht, ← e]; rfl

/-- The hidden state after point `t` is the one the next point starts from. -/
theorem hidIn_next (c : Dev nD) (t : Fin cfg0.N) :
    hidAfter (iblk m c 0 t) (iblk m c 2 t) (iblk m c 3 t) (iblk m c 5 t) (hidIn m c t.val) = hidIn m c (t.val + 1) := by
  rw [hidIn, pt_val]

/-- The body, run from what a point finds, leaves what the proof data say. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.castSucc = between m c t.val from rfl, show (dats m 0 c).Φ t.succ = between m c (t.val + 1) from rfl,
    show (dats m 0 c).owesAt () t.succ = (dats m 0 c).owesAt () t.castSucc from rfl, after_7]
  unfold between
  simp only [before_0, before_1, before_2, before_3, before_4, before_5, before_6]
  iintro ⟨⟨⟨%s, %hs, S0⟩, S1, S2, S3, Hg⟩, HO, ⟨%d0, H0⟩, ⟨%d1, H1⟩, ⟨%d2, H2⟩, ⟨%d3, H3⟩, ⟨%d4, H4⟩, ⟨%d5, H5⟩, ⟨%d6, H6⟩, ⟨%d7, H7⟩⟩
  unfold bodyAt0
  iapply (bodyRun c (grid0.coords t) _ _ _ _ _ _ _ _ _ _ _ _ _ _ _ _ _ _ _ _ _ _ _ _ (iblk m c 0 t) (iblk m c 1 t) (iblk m c 2 t) (iblk m c 3 t) (iblk m c 4 t)
    (iblk m c 5 t) (iblk m c 6 t) (hidIn m c t.val) s (fun h => hidIn_first m c t ((coord_eq t).symm.trans h))
    (fun h => hs (fun h' => h ((coord_eq t).trans h'))) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [S0]; · iexact S0
  isplitl [S1]; · iexact S1
  isplitl [S2]; · iexact S2
  isplitl [S3]; · iexact S3
  iintro ⟨H0, H1, H2, H3, H4, H5, H6, H7, S0, S1, S2, S3⟩
  isplitl [S0 S1 S2 S3 Hg]
  · isplitl [S0]
    · iexists _; isplitr; swap; · iexact S0
      ipureintro; exact fun _ => hidIn_next m c t
    isplitl [S1]; · iexact S1
    isplitl [S2]; · iexact S2
    isplitl [S3]; · iexact S3
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The pipeline's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

/-- The region is entered with the invariant before the first point. -/
theorem enter (c : Dev nD) : Pipeline.ΦA spec0 c ⊢ (dats (F := F) m 0 c).Φ 0 := by
  rw [show (dats m 0 c).Φ 0 = between m c 0 from rfl]
  unfold Pipeline.ΦA between
  rw [scopedRest0_eq]
  simp only [owns_whole]
  iintro ⟨⟨⟨%f, S0⟩, S1, S2, S3⟩, Hg⟩
  isplitl [S0]
  · iexists f; isplitr; swap; · iexact S0
    ipureintro; exact fun h => absurd rfl h
  isplitl [S1]; · iexact S1
  isplitl [S2]; · iexact S2
  isplitl [S3]; · iexact S3
  iexact Hg

/-- After the last point the invariant is forgotten. -/
theorem leave (c : Dev nD) : (dats (F := F) m 0 c).Φ (Fin.last cfg0.N) ⊢ Pipeline.ΦA spec0 c := by
  rw [show (dats m 0 c).Φ (Fin.last cfg0.N) = between m c (Fin.last cfg0.N).val from rfl]
  unfold Pipeline.ΦA between
  rw [scopedRest0_eq]
  simp only [owns_whole]
  iintro ⟨⟨%s, -, S0⟩, S1, S2, S3, Hg⟩
  isplitl [S0 S1 S2 S3]
  · isplitl [S0]; · iexists s; iexact S0
    isplitl [S1]; · iexact S1
    isplitl [S2]; · iexact S2
    iexact S3
  iexact Hg

set_option backward.isDefEq.respectTransparency.types false in
/-- From any memory with zero counters, every fair execution of the program ends, with the windows' arrays at what the
    pipeline leaves in them, the other buffers as the region found them, and every counter at zero. -/
theorem run_main :
    θ_run defs (onTc (τ := τ) (main (F := F))) (s₀ m ρ)
      (fun r => Pipeline.FramePost cfgs (dats m) 0 (V m) r ∧ r.2.sem = fun _ => 0) :=
  Pipeline.θ_run_frame_track (Q' := fun r => Pipeline.FramePost cfgs (dats m) 0 (V m) r ∧ r.2.sem = fun _ => 0)
    cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := enter m) (hout := leave m)

end Cert.KernelIdeal.Block

end
-- ==== Proof.Frames.lean ====
/-
  THE THREE FRAMES: each program ends with its arguments unchanged and its counters back at zero.

  The kernel's idealized program is printed from the same code with no rewrite, so the two programs are the same definitions
  under two names (`main_same`, `defs_same`), and the frame of the one is the frame of the other, at its own float values.
-/
module

public import proofs.«01_k».proof.Defs
public import proofs.«01_k».proof.Proof.KernelIdealFrame
public import proofs.«01_k».proof.Proof.Gen.Kernel.Frame
public import proofs.«01_k».proof.Proof.Gen.ReferenceIdeal.Run

@[expose] public section

set_option maxRecDepth 16384

namespace Cert.Frames

open Idealize.ShloMosaic Idealize.SL.Sem

/-! ## The kernel and its idealized program are one program -/

/-- The two programs have one main. -/
theorem main_same {F : FTy → Type} [FloatOps F] : Cert.Kernel.main (F := F) = Cert.KernelIdeal.main (F := F) := rfl

/-- The two programs define the same procedures (each has one label). -/
theorem defs₀_same {F : FTy → Type} [FloatOps F] : Cert.Kernel.defs₀ (F := F) = Cert.KernelIdeal.defs₀ (F := F) := by
  unfold Cert.Kernel.defs₀ Cert.KernelIdeal.defs₀
  refine congrArg Defs.onTc (funext fun ℓ => funext fun args => ?_)
  obtain ⟨n, h⟩ := ℓ
  cases n with
  | zero => rfl
  | succ n => exact absurd h (Nat.not_lt.2 (Nat.le_add_left _ _))

/-- So they do with the launch added. -/
theorem defs_same {F : FTy → Type} [FloatOps F] : Cert.Kernel.defs (F := F) = Cert.KernelIdeal.defs (F := F) :=
  congrArg (Pipeline.defs (Cert.KernelIdeal.pcfgs (F := F))) defs₀_same

/-! ## The frames -/

/-- The idealized kernel leaves its arguments as they were, over the reals. -/
theorem kernelIdeal : Cert.quiescent_KernelIdeal := fun m ρ _ =>
  θ_run_with_sems (Cert.KernelIdeal.Gen.frame_of m ρ (Cert.KernelIdeal.Block.dats m) (Cert.KernelIdeal.Block.A_eq m))
    (Cert.KernelIdeal.Block.run_main m ρ)

/-- The kernel leaves its arguments as they were, at the machine's floats. -/
theorem kernel : Cert.quiescent_Kernel := fun m ρ _ => by
  have h := θ_run_with_sems (Cert.KernelIdeal.Gen.frame_of (F := Bits) m ρ (Cert.KernelIdeal.Block.dats m) (Cert.KernelIdeal.Block.A_eq m))
    (Cert.KernelIdeal.Block.run_main m ρ)
  rw [← defs_same] at h
  exact h

/-- The reference leaves its arguments as they were, over the reals. -/
theorem referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Frames
-- ==== Proof.Recurrence.lean ====
/-
  THE NETWORK, over the reals and away from any program: eight argument arrays read by coordinates, the hidden state after a
  number of steps, and the output. Both programs are shown to compute `Net.out`.
-/
module

public import Idealize.ShloMosaic.Lib.Pointwise

@[expose] public section

noncomputable section

namespace Cert.Recurrence

open Idealize.ShloMosaic

/-- The arguments of the network, read by coordinates; a weight matrix's first coordinate is the output's. -/
structure Net where
  x : Fin 16 → Fin 4096 → Fin 128 → EReal
  h0 : Fin 16 → Fin 128 → EReal
  wih : Fin 128 → Fin 128 → EReal
  whh : Fin 128 → Fin 128 → EReal
  bih : Fin 128 → EReal
  bhh : Fin 128 → EReal
  wout : Fin 128 → Fin 128 → EReal
  bout : Fin 128 → EReal

variable (w : Net)

/-- One step of the recurrence: from the state `h` and the inputs of time `t`. -/
def Net.next (t : Fin 4096) (h : Fin 16 → Fin 128 → EReal) (b : Fin 16) (j : Fin 128) : EReal :=
  Ideal.tanh ((((∑ i, w.x b t i * w.wih j i) + w.bih j) + ∑ i, h b i * w.whh j i) + w.bhh j)

/-- The hidden state after `n` steps (meant for `n ≤ 4096`). -/
def Net.hidden : ℕ → Fin 16 → Fin 128 → EReal
  | 0 => w.h0
  | n + 1 => w.next (Fin.ofNat 4096 n) (Net.hidden n)

/-- The output of time `t`: the output head of the state after step `t`. -/
def Net.out (b : Fin 16) (t : Fin 4096) (d : Fin 128) : EReal :=
  (∑ j, w.hidden (t.val + 1) b j * w.wout d j) + w.bout d

/-- The state after step `t` is one step from the state before. -/
theorem Net.hidden_succ (t : Fin 4096) : w.hidden (t.val + 1) = w.next t (w.hidden t.val) := by
  have e : Fin.ofNat 4096 t.val = t := Fin.ext (Nat.mod_eq_of_lt t.isLt)
  rw [Net.hidden, e]

/-- One step with the two biases added to each other first, which is how the kernel takes it. -/
theorem Net.next_joint (t : Fin 4096) (h : Fin 16 → Fin 128 → EReal) (b : Fin 16) (j : Fin 128) :
    Ideal.tanh (((∑ i, w.x b t i * w.wih j i) + (w.bih j + w.bhh j)) + ∑ i, h b i * w.whh j i) = w.next t h b j := by
  rw [Net.next, ← add_assoc, add_right_comm]

end Cert.Recurrence
-- ==== Proof.KernelIdealBlocks.lean ====
/-
  WHAT EACH WINDOW'S BLOCK HOLDS, read at coordinates as an element of an argument, over the reals: the input's rows of the
  point's stretch of time, the weights transposed, the two biases of the recurrence added.
-/
module

public import proofs.«01_k».proof.Proof.KernelIdealFrame
public import proofs.«01_k».proof.Proof.Recurrence
public import Idealize.ShloMosaic.Lib.Pointwise
public import Idealize.ShloMosaic.Lib.Claim
public import Idealize.ShloMosaic.Lib.Pipeline.ValueKit

@[expose] public section

set_option maxRecDepth 16384

noncomputable section

namespace Cert.KernelIdeal.Block

open Idealize.ShloMosaic Idealize.ShloMosaic.TcCoe
open Cert.KernelIdeal Cert.KernelIdeal.Gen

variable (m : (ℓ : Loc nD τ sig) → Buf (Elt Ideal) ℓ)

/-- Every window's block index at a point: the point's number along time for the input and the result, zero elsewhere. -/
theorem idx : ∀ t : Fin grid0.N, win0_0.index t = ![0, t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, t.val, 0] := by decide

/-- Time `k` of point `t`, as a time of the whole sequence. -/
def time (t : Fin grid0.N) (k : Fin 1024) : Fin 4096 := ⟨t.val * 1024 + k.val, by
  have := Nat.lt_of_lt_of_eq t.isLt N_0; have := k.isLt; omega⟩

/-- The network whose arguments the device's argument buffers hold. -/
def net (c : Dev nD) : Recurrence.Net where
  x b t i := (m ((c : Thread nD τ).loc main_arg0) : Vec Ideal S16x4096x128 .f32) (ix3 b t i)
  h0 b j := (m ((c : Thread nD τ).loc main_arg1) : Vec Ideal S16x128 .f32) (ix2 b j)
  wih j i := (m ((c : Thread nD τ).loc main_arg2) : Vec Ideal S128x128 .f32) (ix2 j i)
  whh j i := (m ((c : Thread nD τ).loc main_arg3) : Vec Ideal S128x128 .f32) (ix2 j i)
  bih j := (m ((c : Thread nD τ).loc main_arg4) : Vec Ideal S128 .f32) (ix1 j)
  bhh j := (m ((c : Thread nD τ).loc main_arg5) : Vec Ideal S128 .f32) (ix1 j)
  wout d j := (m ((c : Thread nD τ).loc main_arg6) : Vec Ideal S128x128 .f32) (ix2 d j)
  bout d := (m ((c : Thread nD τ).loc main_arg7) : Vec Ideal S128 .f32) (ix1 d)

/-- The input's block holds the point's stretch of time. -/
theorem iblk_0 (c : Dev nD) (t : Fin cfg0.N) (b : Fin 16) (k : Fin 1024) (i : Fin 128) :
    (iblk m c 0 t : Vec Ideal S16x1024x128 .f32) (ix3 b k i) = (net m c).x b (time t k) i := by
  blk_ext [iblk, V, idx t, time, net]

/-- The initial state is one block. -/
theorem iblk_1 (c : Dev nD) (t : Fin cfg0.N) (b : Fin 16) (j : Fin 128) :
    (iblk m c 1 t : Vec Ideal S16x128 .f32) (ix2 b j) = (net m c).h0 b j := by
  blk_ext [iblk, V, idx t, net]

/-- The input weights come transposed. -/
theorem iblk_2 (c : Dev nD) (t : Fin cfg0.N) (i j : Fin 128) :
    (iblk m c 2 t : Vec Ideal S128x128 .f32) (ix2 i j) = (net m c).wih j i := by
  blk_simp [iblk]
  entry_read
  pointwise
  blk_ext [idx t, net]

/-- The recurrent weights come transposed, converted to a narrower format, which over the reals changes nothing. -/
theorem iblk_3 (c : Dev nD) (t : Fin cfg0.N) (i j : Fin 128) :
    (iblk m c 3 t : Vec Ideal S128x128 .bf16) (ix2 i j) = (net m c).whh j i := by
  blk_simp [iblk]
  entry_read
  pointwise
  blk_ext [idx t, net]

/-- The output weights come transposed. -/
theorem iblk_4 (c : Dev nD) (t : Fin cfg0.N) (j d : Fin 128) :
    (iblk m c 4 t : Vec Ideal S128x128 .f32) (ix2 j d) = (net m c).wout d j := by
  blk_simp [iblk]
  entry_read
  pointwise
  blk_ext [idx t, net]

/-- The two biases of the recurrence come added. -/
theorem iblk_5 (c : Dev nD) (t : Fin cfg0.N) (j : Fin 128) :
    (iblk m c 5 t : Vec Ideal S1x128 .f32) (ix2 0 j) = (net m c).bih j + (net m c).bhh j := by
  blk_simp [iblk]
  entry_read
  pointwise
  refine congrArg₂ (fun p q : EReal => p + q) ?_ ?_ <;> blk_ext [idx t, net]

/-- The output bias, as a row. -/
theorem iblk_6 (c : Dev nD) (t : Fin cfg0.N) (d : Fin 128) :
    (iblk m c 6 t : Vec Ideal S1x128 .f32) (ix2 0 d) = (net m c).bout d := by
  blk_simp [iblk]
  entry_read
  pointwise
  blk_ext [idx t, net]

end Cert.KernelIdeal.Block

end
-- ==== Proof.KernelIdealReal.lean ====
/-
  THE KERNEL'S OPERATIONS OVER THE REALS, each read at one element: the pre-activations, one step of the recurrence, the
  conversions (identities here), and the output head.
-/
module

public import proofs.«01_k».proof.Proof.KernelIdealBody
public import Idealize.ShloMosaic.Lib.Pointwise

@[expose] public section

set_option maxRecDepth 16384

noncomputable section

namespace Cert.KernelIdeal.Block

open Idealize.ShloMosaic
open Cert.KernelIdeal Cert.KernelIdeal.Gen

/-- The pre-activation at batch row `b`, time `t`, unit `j`: the input's row times the weights, plus the bias. -/
theorem pay3_apply (x : Vec Ideal S16x1024x128 .f32) (wih : Vec Ideal S128x128 .f32) (bias : Vec Ideal S1x128 .f32) (b : Fin 16) (t : Fin 1024) (j : Fin 128) :
    k0_pay3 x wih bias (ix3 b t j) = (∑ i : Fin 128, x (ix3 b t i) * wih (ix2 i j)) + bias (ix2 0 j) := by
  pointwise [k0_pay3]

/-- A row of pre-activations with its time axis of one dropped. -/
theorem pay5_apply (r : Vec Ideal S16x1x128 .f32) (b : Fin 16) (j : Fin 128) : k0_pay5 r (ix2 b j) = r (ix3 b 0 j) := by
  pointwise [k0_pay5]

/-- One step of the recurrence: the hyperbolic tangent of the pre-activation plus the state times the weights. -/
theorem pay6_apply (whh : Vec Ideal S128x128 .bf16) (h : FVec Ideal S16x128 .bf16) (v : Vec Ideal S16x128 .f32) (b : Fin 16) (j : Fin 128) :
    k0_pay6 whh h v (ix2 b j) = Ideal.tanh (v (ix2 b j) + ∑ i : Fin 128, h (ix2 b i) * whh (ix2 i j)) := by
  pointwise [k0_pay6]

/-- The new state as it is carried: the same numbers in a narrower format. -/
theorem pay8_apply (whh : Vec Ideal S128x128 .bf16) (h : FVec Ideal S16x128 .bf16) (v : Vec Ideal S16x128 .f32) (j : S16x128.Idx) :
    k0_pay8 whh h v j = k0_pay6 whh h v j := by
  pointwise [k0_pay8]

/-- The state converted for the first trip: unchanged. -/
theorem pay4_apply (v : Vec Ideal S16x128 .f32) (j : S16x128.Idx) : k0_pay4 v j = v j := by
  pointwise [k0_pay4]

/-- The last state converted back: unchanged. -/
theorem pay9_apply (v : FVec Ideal S16x128 .bf16) (j : S16x128.Idx) : k0_pay9 v j = v j := by
  pointwise [k0_pay9]

/-- The initial state as the first point stores it: unchanged. -/
theorem pay2_apply (v : Vec Ideal S16x128 .f32) (j : S16x128.Idx) : k0_pay2 v j = v j := by
  pointwise [k0_pay2]

/-- The output head at batch row `b`, time `t`, output unit `d`: the state times the output weights, plus the bias. -/
theorem head_apply (z : Vec Ideal S16x1024x128 .f32) (wout : Vec Ideal S128x128 .f32) (bo : Vec Ideal S1x128 .f32) (b : Fin 16) (t : Fin 1024) (d : Fin 128) :
    k0_pay1 (k0_pay10 z) wout bo (ix3 b t d) = (∑ j : Fin 128, z (ix3 b t j) * wout (ix2 j d)) + bo (ix2 0 d) := by
  pointwise [k0_pay1, k0_pay10]

end Cert.KernelIdeal.Block

end
-- ==== Proof.KernelIdealValue.lean ====
/-
  WHAT THE KERNEL COMPUTES, over the reals: the state carried through the points and the trips is the network's hidden
  state, each block of the result is the network's output over the point's stretch of time, and so the whole result is.
-/
module

public import proofs.«01_k».proof.Proof.KernelIdealBlocks
public import proofs.«01_k».proof.Proof.KernelIdealReal

@[expose] public section

set_option maxRecDepth 16384

noncomputable section

namespace Cert.KernelIdeal.Block

open Idealize.ShloMosaic Idealize.ShloMosaic.TcCoe
open Cert.KernelIdeal Cert.KernelIdeal.Gen

variable (m : (ℓ : Loc nD τ sig) → Buf (Elt Ideal) ℓ)

/-- The pre-activations a point computes for its whole stretch. -/
def pre (c : Dev nD) (t : Fin cfg0.N) : FVec Ideal S16x1024x128 .f32 := k0_pay3 (iblk m c 0 t) (iblk m c 2 t) (iblk m c 5 t)

/-- A pre-activation, at batch row `b`, trip `k` and unit `j`. -/
theorem pre_apply (c : Dev nD) (t : Fin cfg0.N) (b : Fin 16) (k : Fin 1024) (j : Fin 128) :
    pre m c t (ix3 b k j)
      = (∑ i, (net m c).x b (time t k) i * (net m c).wih j i) + ((net m c).bih j + (net m c).bhh j) := by
  rw [pre, pay3_apply]
  simp_rw [iblk_0, iblk_2, iblk_5]

/-- One trip from a state `h` that reads `H` is the recurrence's step from `H`. -/
theorem trip_apply (c : Dev nD) (t : Fin cfg0.N) (k : Fin 1024) (h : FVec Ideal S16x128 .bf16) (H : Fin 16 → Fin 128 → EReal)
    (hH : ∀ b j, h (ix2 b j) = H b j) (b : Fin 16) (j : Fin 128) :
    k0_pay6 (F := Ideal) (iblk m c 3 t) h (k0_pay5 (F := Ideal) (rowAt (pre m c t) k)) (ix2 b j) = (net m c).next (time t k) H b j := by
  rw [pay6_apply, pay5_apply, ← Recurrence.Net.next_joint]
  simp_rw [hH, iblk_3]
  exact congrArg (fun z => Ideal.tanh (z + _)) (pre_apply m c t b k j)

/-- The state before trip `k` of point `t`, when the point starts from the network's state. -/
theorem carry_apply (c : Dev nD) (t : Fin cfg0.N) (start : FVec Ideal S16x128 .bf16)
    (hs : ∀ b j, start (ix2 b j) = (net m c).hidden (t.val * 1024) b j) :
    ∀ k : ℕ, k ≤ 1024 → ∀ b j, carry (pre m c t) (iblk m c 3 t) start k (ix2 b j) = (net m c).hidden (t.val * 1024 + k) b j
  | 0, _, b, j => hs b j
  | k + 1, hk, b, j => by
    have e : Fin.ofNat 1024 k = ⟨k, hk⟩ := Fin.ext (Nat.mod_eq_of_lt hk)
    rw [carry, e, pay8_apply, trip_apply m c t ⟨k, hk⟩ _ _ (carry_apply c t start hs k (Nat.le_of_succ_le hk))]
    exact (congrFun (congrFun ((net m c).hidden_succ (time t ⟨k, hk⟩)) b) j).symm

/-- The states a point stores, one row for each trip. -/
theorem states_apply (c : Dev nD) (t : Fin cfg0.N) (start : FVec Ideal S16x128 .bf16)
    (hs : ∀ b j, start (ix2 b j) = (net m c).hidden (t.val * 1024) b j) (b : Fin 16) (k : Fin 1024) (j : Fin 128) :
    states (pre m c t) (iblk m c 3 t) start (ix3 b k j) = (net m c).hidden ((time t k).val + 1) b j := by
  rw [Recurrence.Net.hidden_succ]
  exact trip_apply m c t k _ _ (carry_apply m c t start hs k.val k.isLt.le) b j

/-- The state carried into point `n` is the network's after the `1024 * n` steps before it. -/
theorem hidIn_apply (c : Dev nD) : ∀ n : ℕ, n < 4 → ∀ b j, hidIn m c n (ix2 b j) = (net m c).hidden (n * 1024) b j
  | 0, _, b, j => by
    rw [hidIn, pay2_apply, iblk_1]; rfl
  | n + 1, hn, b, j => by
    have e : (pt n).val = n := Nat.mod_eq_of_lt (by omega)
    rw [hidIn, hidAfter, pay9_apply]
    have h := carry_apply m c (pt n) (k0_pay4 (hidIn m c n))
      (fun b j => by rw [pay4_apply, hidIn_apply c n (by omega) b j, e]) 1024 le_rfl b j
    rw [pre, e] at h
    rw [h, Nat.succ_mul]

/-- What point `t` puts into the result: the network's output over the point's stretch. -/
theorem outAt_apply (c : Dev nD) (t : Fin cfg0.N) (b : Fin 16) (k : Fin 1024) (d : Fin 128) :
    outAt m c t (ix3 b k d) = (net m c).out b (time t k) d := by
  have ht : t.val < 4 := Nat.lt_of_lt_of_eq t.isLt N_0
  rw [outAt, outBlock, head_apply, Recurrence.Net.out, iblk_6]
  refine congrArg (· + _) (Finset.sum_congr rfl fun j _ => ?_)
  rw [iblk_4, blockStates]
  exact congrArg (· * _) (states_apply m c t _ (fun b j => by rw [pay4_apply, hidIn_apply m c _ ht]) b k j)

/-- The whole result: the network's output at every batch row, time and output unit. -/
def result (c : Dev nD) : Vec Ideal S16x4096x128 .f32 := fun y => (net m c).out (y 0) (y 1) (y 2)

/-- After the last point the result's array holds the network's output: the points' blocks cover it. -/
theorem result_eq (c : Dev nD) : (dats m 0 c).arrAt 7 cfg0.N = result m c := by
  refine (dats m 0 c).arrAt_eq_of_covers 7 _ (by decide +kernel) fun t hf y => ?_
  blk_simp
  rw [after_7]
  idx_vars y
  refine (outAt_apply m c t y0 y1 y2).trans (Eq.symm (?_ : _ = result m c (ix3 y0 (time t y1) y2)))
  blk_ext [idx t, time]

end Cert.KernelIdeal.Block
-- ==== Proof.ReferenceIdealValue.lean ====
/-
  WHAT THE REFERENCE COMPUTES, over the reals: after `k` trips of its loop the carried buffers hold the network's hidden
  state after `k` steps and, in the first `k` rows of the stacked states, the states after each step; so its result is the
  network's output.
-/
module

public import proofs.«01_k».proof.Proof.Gen.ReferenceIdeal.Run
public import proofs.«01_k».proof.Proof.Recurrence
public import Idealize.ShloMosaic.Lib.DynamicIndex
public import Idealize.ShloMosaic.Lib.Pointwise

@[expose] public section

set_option maxRecDepth 16384

noncomputable section

namespace Cert.ReferenceIdeal.Scan

open Idealize.ShloMosaic Idealize.ShloMosaic.TcCoe Idealize.ShloMosaic.StableHlo
open Cert.ReferenceIdeal Cert.ReferenceIdeal.Gen Cert.ReferenceIdeal.Value

/-- The starts of the loop's slice and update at a counter that reads `k`: row `k`, the other axes whole. -/
theorem starts_eq (n : (⟨S_, .i32⟩ : BufTy).Contents (Elt Ideal)) (k : ℕ) (hk : k < 4096) (hn : n = fun _ => BitVec.ofNat 32 k) (a : Fin 3) :
    ((![n, constantI S_ 32 0#32, constantI S_ 32 0#32] : Fin 3 → (⟨S_, .i32⟩ : BufTy).Contents (Elt Ideal)) a (Shape.Idx.first h_S_)).toInt
      = ((![k, 0, 0] : Fin 3 → ℕ) a : Int) := by
  subst hn
  fin_cases a
  · exact toInt_ofNat_of_lt (by omega)
  · rfl
  · rfl

/-- The row a trip takes of the time-major input. -/
theorem take_row (X : Vec Ideal S4096x16x128 .f32) (start : Fin 3 → Int) (k : Fin 4096) (hs : ∀ a, start a = ((![k.val, 0, 0] : Fin 3 → ℕ) a : Int))
    (b : Fin 16) (i : Fin 128) :
    shapeCast S16x128 (Host.dynamicSlice S1x16x128 X start sliceFits_S4096x16x128_S1x16x128) shapeCasts_S1x16x128_S16x128 (ix2 b i)
      = X (ix3 k b i) := by
  have hk := k.isLt
  have hoff : S4096x16x128.Slices ![k.val, 0, 0] S1x16x128 := ⟨rfl, fun a => by fin_cases a <;> simp [Shape.size] <;> omega⟩
  rw [Host.dynamicSlice_eq_extractStridedSlice S1x16x128 X start ![k.val, 0, 0] _ hoff hs]
  pointwise

/-- The stacked states after a trip has put its row: the new state at row `k`, every other row as before. -/
theorem put_row (Z : Vec Ideal S4096x16x128 .f32) (r : Vec Ideal S16x128 .f32) (start : Fin 3 → Int) (k : Fin 4096)
    (hs : ∀ a, start a = ((![k.val, 0, 0] : Fin 3 → ℕ) a : Int)) (t : Fin 4096) (b : Fin 16) (j : Fin 128) :
    Host.dynamicUpdateSlice Z (broadcastInDim S1x16x128 ![1, 2] bcast_S16x128_S1x16x128_1_2 r) start updateFits_S4096x16x128_S1x16x128 (ix3 t b j)
      = if t = k then r (ix2 b j) else Z (ix3 t b j) := by
  have hk := k.isLt
  have hoff : S4096x16x128.Slices ![k.val, 0, 0] S1x16x128 := ⟨rfl, fun a => by fin_cases a <;> simp [Shape.size] <;> omega⟩
  rw [Host.dynamicUpdateSlice_eq_updateSlice Z _ start _ ![k.val, 0, 0] (fun a => by have := hoff.2 a; rw [hs a]; omega) hoff]
  unfold updateSlice
  by_cases h : t = k
  · subst h
    rw [if_pos rfl, dif_pos (fun a => by fin_cases a <;> simp [Shape.size])]
    pointwise
  · rw [if_neg h, dif_neg (fun hin => h (Fin.ext (by have := hin 0; simp [Shape.size] at this; omega)))]

/-- What the loop's carried buffers hold after `k` trips of the network `w`. -/
structure Holds (w : Recurrence.Net) (k : ℕ) (V : Valuation τ sig (Elt Ideal)) : Prop where
  xt : ∀ t b i, (V (Proc.devRef .tc main_v2_0) : Vec Ideal S4096x16x128 .f32) (ix3 t b i) = w.x b t i
  wih : ∀ j i, (V (Proc.devRef .tc main_v2_1) : Vec Ideal S128x128 .f32) (ix2 j i) = w.wih j i
  bih : ∀ j, (V (Proc.devRef .tc main_v2_2) : Vec Ideal S128 .f32) (ix1 j) = w.bih j
  whh : ∀ j i, (V (Proc.devRef .tc main_v2_3) : Vec Ideal S128x128 .f32) (ix2 j i) = w.whh j i
  bhh : ∀ j, (V (Proc.devRef .tc main_v2_4) : Vec Ideal S128 .f32) (ix1 j) = w.bhh j
  count : V (Proc.devRef .tc main_v2_5) = fun _ => BitVec.ofNat 32 k
  state : ∀ b j, (V (Proc.devRef .tc main_v2_6) : Vec Ideal S16x128 .f32) (ix2 b j) = w.hidden k b j
  rows : ∀ t : Fin 4096, t.val < k → ∀ b j,
    (V (Proc.devRef .tc main_v2_7) : Vec Ideal S4096x16x128 .f32) (ix3 t b j) = w.hidden (t.val + 1) b j

/-- The state a trip computes is the network's next. -/
theorem new_state (w : Recurrence.Net) (k : Fin 4096) (V : Valuation τ sig (Elt Ideal)) (H : Holds w k.val V) (b : Fin 16) (j : Fin 128) :
    (res_main_while0b_v21 V : Vec Ideal S16x128 .f32) (ix2 b j) = w.hidden (k.val + 1) b j := by
  rw [Recurrence.Net.hidden_succ, Recurrence.Net.next]
  have hx : ∀ i, shapeCast S16x128 (Host.dynamicSlice S1x16x128 (V (Proc.devRef .tc main_v2_0) : Vec Ideal S4096x16x128 .f32) _ sliceFits_S4096x16x128_S1x16x128)
      shapeCasts_S1x16x128_S16x128 (ix2 b i) = w.x b k i :=
    fun i => (take_row _ _ k (starts_eq _ k.val k.isLt H.count) b i).trans (H.xt k b i)
  unfold res_main_while0b_v21
  revert hx
  generalize shapeCast S16x128 (Host.dynamicSlice S1x16x128 (V (Proc.devRef .tc main_v2_0) : Vec Ideal S4096x16x128 .f32) _ sliceFits_S4096x16x128_S1x16x128)
      shapeCasts_S1x16x128_S16x128 = X
  intro hx
  have h1 := H.wih
  have h2 := H.bih
  have h3 := H.whh
  have h4 := H.bhh
  have h5 := H.state
  pointwise
  simp only [hx, h1, h2, h3, h4, h5]

/-- One trip. -/
theorem holds_step (w : Recurrence.Net) (k : ℕ) (hk : k < 4096) (V : Valuation τ sig (Elt Ideal)) (H : Holds w k V) : Holds w (k + 1) (STEP V) where
  xt := by rw [STEP_main_v2_0]; exact H.xt
  wih := by rw [STEP_main_v2_1]; exact H.wih
  bih := by rw [STEP_main_v2_2]; exact H.bih
  whh := by rw [STEP_main_v2_3]; exact H.whh
  bhh := by rw [STEP_main_v2_4]; exact H.bhh
  count := by
    rw [STEP_main_v2_5, step_main_v2_5, H.count]
    funext _
    exact (BitVec.ofNat_add ..).symm
  state := by rw [STEP_main_v2_6]; exact new_state w ⟨k, hk⟩ V H
  rows t ht b j := by
    rw [STEP_main_v2_7]
    refine (put_row _ _ _ ⟨k, hk⟩ (starts_eq _ k hk H.count) t b j).trans ?_
    by_cases e : t = ⟨k, hk⟩
    · rw [if_pos e, e]; exact new_state w ⟨k, hk⟩ V H b j
    · rw [if_neg e]
      exact H.rows t (Nat.lt_of_le_of_ne (Nat.le_of_lt_succ ht) fun h => e (Fin.ext h)) b j

variable (m : (ℓ : Loc nD τ sig) → Buf (Elt Ideal) ℓ)

/-- The network whose arguments the device's argument buffers hold. -/
def net (c : Dev nD) : Recurrence.Net where
  x b t i := (m ((c : Thread nD τ).loc main_arg0) : Vec Ideal S16x4096x128 .f32) (ix3 b t i)
  h0 b j := (m ((c : Thread nD τ).loc main_arg1) : Vec Ideal S16x128 .f32) (ix2 b j)
  wih j i := (m ((c : Thread nD τ).loc main_arg2) : Vec Ideal S128x128 .f32) (ix2 j i)
  whh j i := (m ((c : Thread nD τ).loc main_arg3) : Vec Ideal S128x128 .f32) (ix2 j i)
  bih j := (m ((c : Thread nD τ).loc main_arg4) : Vec Ideal S128 .f32) (ix1 j)
  bhh j := (m ((c : Thread nD τ).loc main_arg5) : Vec Ideal S128 .f32) (ix1 j)
  wout d j := (m ((c : Thread nD τ).loc main_arg6) : Vec Ideal S128x128 .f32) (ix2 d j)
  bout d := (m ((c : Thread nD τ).loc main_arg7) : Vec Ideal S128 .f32) (ix1 d)

/-- Before the first trip. -/
theorem holds_entry (c : Dev nD) : Holds (net m c) 0 (entryContents preI m c) where
  xt t b i := by
    simp only [entryContents, afterL_cons, afterL_nil]
    after_results
    rw [id_eq]
    pointwise
    rfl
  wih j i := by
    simp only [entryContents, afterL_cons, afterL_nil]
    after_results
    rfl
  bih j := by
    simp only [entryContents, afterL_cons, afterL_nil]
    after_results
    rfl
  whh j i := by
    simp only [entryContents, afterL_cons, afterL_nil]
    after_results
    rfl
  bhh j := by
    simp only [entryContents, afterL_cons, afterL_nil]
    after_results
    rfl
  count := ctr_entry m c
  state b j := by
    simp only [entryContents, afterL_cons, afterL_nil]
    after_results
    rfl
  rows t ht := absurd ht (Nat.not_lt_zero _)

/-- After any number of trips. -/
theorem holds_iter (c : Dev nD) : ∀ k : ℕ, k ≤ 4096 → Holds (net m c) k (STEP^[k] (entryContents preI m c))
  | 0, _ => holds_entry m c
  | k + 1, hk => by
    rw [Function.iterate_succ_apply']
    exact holds_step _ k hk _ (holds_iter c k (Nat.le_of_succ_le hk))

/-- The reference's result is the network's output. -/
theorem out_apply (c : Dev nD) (b : Fin 16) (t : Fin 4096) (d : Fin 128) :
    (out_main_v8 (STEP^[4096] (entryContents preI m c)) : Vec Ideal S16x4096x128 .f32) (ix3 b t d) = (net m c).out b t d := by
  have hz := (holds_iter m c 4096 le_rfl).rows
  have hw := iter_main_arg6 m c 4096
  have hb := iter_main_arg7 m c 4096
  revert hz hw hb
  generalize STEP^[4096] (entryContents preI m c) = V
  intro hz hw hb
  rw [Recurrence.Net.out]
  unfold out_main_v8
  rw [hw, hb]
  pointwise
  simp only [fun x => hz t t.isLt b x]
  rfl

/-- The whole result: the network's output at every batch row, time and output unit. -/
def result (c : Dev nD) : Vec Ideal S16x4096x128 .f32 := fun y => (net m c).out (y 0) (y 1) (y 2)

/-- The reference's result array holds the network's output. -/
theorem result_eq (c : Dev nD) : out_main_v8 (STEP^[4096] (entryContents preI m c)) = result m c := by
  refine funext fun (y : S16x4096x128.Idx) => ?_
  idx_vars y
  exact out_apply m c y0 y1 y2

end Cert.ReferenceIdeal.Scan
-- ==== Proof.Equation.lean ====
/-
  THE EQUATION: from arguments that agree the kernel and the reference leave the same result, over the reals: both leave the
  output of the network their argument buffers hold.
-/
module

public import proofs.«01_k».proof.Proof.Frames
public import proofs.«01_k».proof.Proof.KernelIdealValue
public import proofs.«01_k».proof.Proof.ReferenceIdealValue

@[expose] public section

set_option maxRecDepth 16384

namespace Cert.Equation

open Idealize.ShloMosaic Idealize.ShloMosaic.TcCoe Idealize.SL.Sem

/-- The kernel, from any memory: its result ends at the network's output. -/
theorem kernel_run (m : (ℓ : Loc KernelIdeal.nD KernelIdeal.τ KernelIdeal.sig) → Buf (Elt Ideal) ℓ) (ρ : Dev KernelIdeal.nD → PrngReg) :
    θ_run (KernelIdeal.defs (F := Ideal)) (onTc (τ := KernelIdeal.τ) (KernelIdeal.main (F := Ideal))) ⟨m, fun _ => 0, ρ⟩ fun r =>
      ∀ c : Dev KernelIdeal.nD, r.2.mem ((c : Thread KernelIdeal.nD KernelIdeal.τ).loc KernelIdeal.main_v7) = KernelIdeal.Block.result m c :=
  (θ_run KernelIdeal.defs _ _).mono (fun _ h c => ((h.1 c).1 7).trans (KernelIdeal.Block.result_eq m c))
    (KernelIdeal.Block.run_main m ρ)

/-- Arguments that agree are one network. -/
theorem net_same (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' ((c : Thread ReferenceIdeal.nD ReferenceIdeal.τ).loc ReferenceIdeal.main_arg0) = m ((c : Thread KernelIdeal.nD KernelIdeal.τ).loc KernelIdeal.main_arg0))
    (h1 : m' ((c : Thread ReferenceIdeal.nD ReferenceIdeal.τ).loc ReferenceIdeal.main_arg1) = m ((c : Thread KernelIdeal.nD KernelIdeal.τ).loc KernelIdeal.main_arg1))
    (h2 : m' ((c : Thread ReferenceIdeal.nD ReferenceIdeal.τ).loc ReferenceIdeal.main_arg2) = m ((c : Thread KernelIdeal.nD KernelIdeal.τ).loc KernelIdeal.main_arg2))
    (h3 : m' ((c : Thread ReferenceIdeal.nD ReferenceIdeal.τ).loc ReferenceIdeal.main_arg3) = m ((c : Thread KernelIdeal.nD KernelIdeal.τ).loc KernelIdeal.main_arg3))
    (h4 : m' ((c : Thread ReferenceIdeal.nD ReferenceIdeal.τ).loc ReferenceIdeal.main_arg4) = m ((c : Thread KernelIdeal.nD KernelIdeal.τ).loc KernelIdeal.main_arg4))
    (h5 : m' ((c : Thread ReferenceIdeal.nD ReferenceIdeal.τ).loc ReferenceIdeal.main_arg5) = m ((c : Thread KernelIdeal.nD KernelIdeal.τ).loc KernelIdeal.main_arg5))
    (h6 : m' ((c : Thread ReferenceIdeal.nD ReferenceIdeal.τ).loc ReferenceIdeal.main_arg6) = m ((c : Thread KernelIdeal.nD KernelIdeal.τ).loc KernelIdeal.main_arg6))
    (h7 : m' ((c : Thread ReferenceIdeal.nD ReferenceIdeal.τ).loc ReferenceIdeal.main_arg7) = m ((c : Thread KernelIdeal.nD KernelIdeal.τ).loc KernelIdeal.main_arg7)) :
    ReferenceIdeal.Scan.net m' c = KernelIdeal.Block.net m c := by
  unfold ReferenceIdeal.Scan.net KernelIdeal.Block.net
  rw [h0, h1, h2, h3, h4, h5, h6, h7]

/-- Of one network the two results are one array. -/
theorem result_same (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h : ReferenceIdeal.Scan.net m' c = KernelIdeal.Block.net m c) : ReferenceIdeal.Scan.result m' c = KernelIdeal.Block.result m c := by
  unfold ReferenceIdeal.Scan.result KernelIdeal.Block.result
  rw [h]

/-- The kernel over the reals computes what the reference computes, with no condition on the arguments. -/
theorem algebraic : Cert.algebraic_KernelIdeal_ReferenceIdeal := fun m ρ m' ρ' _ hagree => by
  have hk := kernel_run m ρ
  have hf := KernelIdeal.Gen.frame_of m ρ (KernelIdeal.Block.dats m) (KernelIdeal.Block.A_eq m)
    ((θ_run KernelIdeal.defs _ _).mono (fun _ h => h.1) (KernelIdeal.Block.run_main m ρ))
  refine ⟨KernelIdeal.Block.result m, ⟨fun t ht hs c => ⟨hk.post t ht hs c, hf.post t ht hs c⟩, hk.progress, hk.fair⟩, ?_⟩
  refine (θ_run ReferenceIdeal.defs _ _).mono (fun _ h c => ⟨(h c).1.trans ((ReferenceIdeal.Scan.result_eq m' c).trans (result_same m m' c ?_)), (h c).2⟩)
    (ReferenceIdeal.Value.run (F := Ideal) m' ρ')
  obtain ⟨h0, h1, h2, h3, h4, h5, h6, h7⟩ := hagree c
  exact net_same m m' c h0 h1 h2 h3 h4 h5 h6 h7

end Cert.Equation
-- ==== Proof.lean ====
/-
  THE CLAIM, put together: the three frames (Proof/Frames.lean), the idealized kernel printed with no rewrite, and the equation
  of the idealized kernel with the idealized reference (Proof/Equation.lean). The facts the programs state come from the
  generated modules.
-/
module

public import proofs.«01_k».proof.Defs
public import proofs.«01_k».proof.Proof.Frames
public import proofs.«01_k».proof.Proof.Equation
public import proofs.«01_k».proof.Proof.Gen.Kernel
public import proofs.«01_k».proof.Proof.Gen.KernelIdeal
public import proofs.«01_k».proof.Proof.Gen.ReferenceIdeal

@[expose] public section

noncomputable section

namespace Cert.Proof

/-- Everything claimed: each program leaves its arguments and counters as it found them, idealizing the kernel rewrites nothing,
    and over the reals the kernel's result is the reference's. -/
theorem claim : Cert.Claim := ⟨Cert.Kernel.Gen.facts, Cert.KernelIdeal.Gen.facts, Cert.ReferenceIdeal.Gen.facts,
  Cert.Frames.kernel, Cert.Frames.kernelIdeal, Cert.Frames.referenceIdeal, trivial, Cert.Equation.algebraic⟩

end Cert.Proof

end
